-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x2048 : Shape := ⟨3, ![16, 512, 2048]⟩
abbrev S16x512x200 : Shape := ⟨3, ![16, 512, 200]⟩
abbrev S16x200 : Shape := ⟨2, ![16, 200]⟩
abbrev S200x1x2048 : Shape := ⟨3, ![200, 1, 2048]⟩
abbrev S16x200x512 : Shape := ⟨3, ![16, 200, 512]⟩
abbrev S2x512x2048 : Shape := ⟨3, ![2, 512, 2048]⟩
abbrev S2x200x512 : Shape := ⟨3, ![2, 200, 512]⟩
abbrev S200x2048 : Shape := ⟨2, ![200, 2048]⟩
abbrev S200x128 : Shape := ⟨2, ![200, 128]⟩
abbrev S1x200 : Shape := ⟨2, ![1, 200]⟩
abbrev S200x1 : Shape := ⟨2, ![200, 1]⟩
abbrev S1x200x512 : Shape := ⟨3, ![1, 200, 512]⟩
abbrev S200x512 : Shape := ⟨2, ![200, 512]⟩
abbrev S1x512x2048 : Shape := ⟨3, ![1, 512, 2048]⟩
abbrev S512x2048 : Shape := ⟨2, ![512, 2048]⟩
abbrev S512x128 : Shape := ⟨2, ![512, 128]⟩

abbrev nBuf : Space → Nat
  | .hbm => 6
  | .vmem => 9
  | .smem => 0
  | _ => 0

abbrev bufTy : (tb : Table) → Fin (tcTables nBuf tb) → BufTy
  | .hbm, ⟨0, _⟩ => ⟨S16x512x2048, .f32⟩
  | .hbm, ⟨1, _⟩ => ⟨S16x512x200, .i32⟩
  | .hbm, ⟨2, _⟩ => ⟨S16x200, .i32⟩
  | .hbm, ⟨3, _⟩ => ⟨S200x1x2048, .f32⟩
  | .hbm, ⟨4, _⟩ => ⟨S16x200x512, .i32⟩
  | .hbm, ⟨5, _⟩ => ⟨S200x1x2048, .f32⟩
  | .local _ .vmem, ⟨0, _⟩ => ⟨S2x512x2048, .f32⟩
  | .local _ .vmem, ⟨1, _⟩ => ⟨S2x512x2048, .f32⟩
  | .local _ .vmem, ⟨2, _⟩ => ⟨S2x200x512, .i32⟩
  | .local _ .vmem, ⟨3, _⟩ => ⟨S2x200x512, .i32⟩
  | .local _ .vmem, ⟨4, _⟩ => ⟨S16x200, .i32⟩
  | .local _ .vmem, ⟨5, _⟩ => ⟨S200x1x2048, .f32⟩
  | .local _ .vmem, ⟨6, _⟩ => ⟨S200x1x2048, .f32⟩
  | .local _ .vmem, ⟨7, _⟩ => ⟨S200x2048, .f32⟩
  | .local _ .vmem, ⟨8, _⟩ => ⟨S200x128, .f32⟩
  | _, _ => ⟨S16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_off1 (i : grid0.Coords) (c0_i32_2 : BitVec 32) : Fin 2 → Nat :=
  let arg0 : BitVec 32 := BitVec.ofNat 32 (i 0).val
  let c2_i32 : BitVec 32 := 2#32
  let v4 : BitVec 32 := Scalar.muli arg0 c2_i32
  let v5 : BitVec 32 := Scalar.addi v4 c0_i32_2
  let v6 : Index := Scalar.indexCast v5
  let c0_3 : Index := 0#32
  ![v6.toNat, 0]
def k0_cond2 (i : grid0.Coords) : BitVec 1 :=
  let arg0 : BitVec 32 := BitVec.ofNat 32 (i 0).val
  let c7_i32 : BitVec 32 := 7#32
  let v57 : BitVec 1 := Scalar.cmpi .eq arg0 c7_i32
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x200x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x512x2048 : Shape := ⟨3, ![16, 512, 2048]⟩
abbrev S16x512x200 : Shape := ⟨3, ![16, 512, 200]⟩
abbrev S16x200 : Shape := ⟨2, ![16, 200]⟩
abbrev S200x1x2048 : Shape := ⟨3, ![200, 1, 2048]⟩
abbrev S_ : Shape := ⟨0, ![]⟩
abbrev S16x1x200 : Shape := ⟨3, ![16, 1, 200]⟩
abbrev S200x2048 : Shape := ⟨2, ![200, 2048]⟩
abbrev S200 : Shape := ⟨1, ![200]⟩
abbrev S200x1 : Shape := ⟨2, ![200, 1]⟩
abbrev S200x1x1 : Shape := ⟨3, ![200, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x512x2048, .f32⟩
  | .hbm, ⟨1, _⟩ => ⟨S16x512x200, .i32⟩
  | .hbm, ⟨2, _⟩ => ⟨S16x200, .i32⟩
  | .hbm, ⟨3, _⟩ => ⟨S200x1x2048, .f32⟩
  | .hbm, ⟨4, _⟩ => ⟨S_, .i32⟩
  | .hbm, ⟨5, _⟩ => ⟨S16x512x200, .i32⟩
  | .hbm, ⟨6, _⟩ => ⟨S16x512x200, .i1⟩
  | .hbm, ⟨7, _⟩ => ⟨S16x1x200, .i32⟩
  | .hbm, ⟨8, _⟩ => ⟨S_, .i32⟩
  | .hbm, ⟨9, _⟩ => ⟨S16x1x200, .i32⟩
  | .hbm, ⟨10, _⟩ => ⟨S16x1x200, .i1⟩
  | .hbm, ⟨11, _⟩ => ⟨S16x512x200, .i1⟩
  | .hbm, ⟨12, _⟩ => ⟨S16x512x200, .i1⟩
  | .hbm, ⟨13, _⟩ => ⟨S16x512x200, .f32⟩
  | .hbm, ⟨14, _⟩ => ⟨S200x2048, .f32⟩
  | .hbm, ⟨15, _⟩ => ⟨S_, .f32⟩
  | .hbm, ⟨16, _⟩ => ⟨S200, .f32⟩
  | .hbm, ⟨17, _⟩ => ⟨S_, .f32⟩
  | .hbm, ⟨18, _⟩ => ⟨S200, .f32⟩
  | .hbm, ⟨19, _⟩ => ⟨S200, .i1⟩
  | .hbm, ⟨20, _⟩ => ⟨S_, .f32⟩
  | .hbm, ⟨21, _⟩ => ⟨S200, .f32⟩
  | .hbm, ⟨22, _⟩ => ⟨S200, .f32⟩
  | .hbm, ⟨23, _⟩ => ⟨S200x1, .f32⟩
  | .hbm, ⟨24, _⟩ => ⟨S200x2048, .f32⟩
  | .hbm, ⟨25, _⟩ => ⟨S200x2048, .f32⟩
  | .hbm, ⟨26, _⟩ => ⟨S_, .f32⟩
  | .hbm, ⟨27, _⟩ => ⟨S200x1x2048, .f32⟩
  | .hbm, ⟨28, _⟩ => ⟨S200x1x2048, .f32⟩
  | .hbm, ⟨29, _⟩ => ⟨S200x1x2048, .f32⟩
  | .hbm, ⟨30, _⟩ => ⟨S_, .f32⟩
  | .hbm, ⟨31, _⟩ => ⟨S200x1x2048, .f32⟩
  | .hbm, ⟨32, _⟩ => ⟨S200x1x2048, .f32⟩
  | .hbm, ⟨33, _⟩ => ⟨S200x1x2048, .f32⟩
  | .hbm, ⟨34, _⟩ => ⟨S200x1x1, .i1⟩
  | .hbm, ⟨35, _⟩ => ⟨S200x1x2048, .i1⟩
  | .hbm, ⟨36, _⟩ => ⟨S200x1x2048, .f32⟩
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Block.lean ====
/-
  What the kernel body leaves behind at one grid point, case by case.

  A point handles two batches. The body reads one row of labels, one slab of the activity array and one slab of the
  features for each batch, and adds to the two carried buffers (the feature sums and the counts). At the first point the
  carried buffers start from zero; at the last point the body also writes the updated prototypes. Each statement below
  says what a buffer holds after the body as the body's own arithmetic applied to what it loaded.
-/
module

public import proofs.«01_k».proof.Defs
public import proofs.«01_k».proof.Proof.Gen.KernelIdeal.Frame
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-- A pair of zero offsets is the constantly zero offset. -/
theorem zero2 : (![0, 0] : Fin 2 → Nat) = fun _ => 0 :=
  funext fun | 0 => rfl | 1 => rfl

/-- A triple of zero offsets is the constantly zero offset. -/
theorem zero3 : (![0, 0, 0] : Fin 3 → Nat) = fun _ => 0 :=
  funext fun | 0 => rfl | 1 => rfl | 2 => rfl

/-- A load of part of a buffer that one store has just filled reads that part of what was stored. -/
theorem load_of_whole_store {S : Shape} {e : EltTy} {κ : Kind} {sp : Space} (v : View sig κ sp S e) {off : Fin S.rank → Nat}
    (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld v _ r fun y => ⟨_, List.mem_singleton_self _, View.mem_set_unit_zero h inb y⟩,
    View.canon_unit_zero h]

/-- The row of labels that point `i` reads for its first batch. -/
def label0 (i : grid0.Coords) (x2 : Vec F S16x200 .i32) : Vec F S1x200 .i32 :=
  View.ld x2 (Rect.unit (s := S16x200) (k0_off1 i 0#32) S1x200.size (k0_off1_inb i 0))

/-- The row of labels that point `i` reads for its second batch. -/
def label1 (i : grid0.Coords) (x2 : Vec F S16x200 .i32) : Vec F S1x200 .i32 :=
  View.ld x2 (Rect.unit (s := S16x200) (k0_off1 i 1#32) S1x200.size (k0_off1_inb i 1))

/-- The activity slab of the first batch. -/
def act0 (x1 : Vec F S2x200x512 .i32) : Vec F S1x200x512 .i32 :=
  View.ld x1 (Rect.unit (s := S2x200x512) ![0, 0, 0] S1x200x512.size inb_S2x200x512_S1x200x512_0_0_0)

/-- The activity slab of the second batch. -/
def act1 (x1 : Vec F S2x200x512 .i32) : Vec F S1x200x512 .i32 :=
  View.ld x1 (Rect.unit (s := S2x200x512) ![1, 0, 0] S1x200x512.size inb_S2x200x512_S1x200x512_1_0_0)

/-- The feature slab of the first batch. -/
def feat0 (x0 : Vec F S2x512x2048 .f32) : Vec F S1x512x2048 .f32 :=
  View.ld x0 (Rect.unit (s := S2x512x2048) ![0, 0, 0] S1x512x2048.size inb_S2x512x2048_S1x512x2048_0_0_0)

/-- The feature slab of the second batch. -/
def feat1 (x0 : Vec F S2x512x2048 .f32) : Vec F S1x512x2048 .f32 :=
  View.ld x0 (Rect.unit (s := S2x512x2048) ![1, 0, 0] S1x512x2048.size inb_S2x512x2048_S1x512x2048_1_0_0)

/-- The first column of the count buffer. -/
def col0 (s1 : Vec F S200x128 .f32) : Vec F S200x1 .f32 :=
  View.ld s1 (Rect.unit (s := S200x128) ![0, 0] S200x1.size inb_S200x128_S200x1_0_0)

/-- The feature sums after one point, from the sums `s` before it. -/
def sumStep (i : grid0.Coords) (x0 : Vec F S2x512x2048 .f32) (x1 : Vec F S2x200x512 .i32) (x2 : Vec F S16x200 .i32)
    (s : Vec F S200x2048 .f32) : Vec F S200x2048 .f32 :=
  k0_pay2 (k0_pay8 s (label0 i x2) (act0 x1) (feat0 x0)) (k0_pay9 (label1 i x2)) (k0_pay10 (act1 x1)) 0#32 (feat1 x0)

/-- The counts after one point, from the counts `s` before it. -/
def cntStep (i : grid0.Coords) (x1 : Vec F S2x200x512 .i32) (x2 : Vec F S16x200 .i32)
    (s : Vec F S200x128 .f32) : Vec F S200x128 .f32 :=
  k0_pay3 (k0_pay7 (label0 i x2) (act0 x1)) (k0_pay9 (label1 i x2)) (k0_pay10 (act1 x1)) 0#32 s

variable (c : Dev nD) (i : grid0.Coords)
  (a1 : Memref sig .tc .vmem S2x512x2048 .f32) (h1 : a1.IsWhole) (a2 : Memref sig .tc .vmem S2x200x512 .i32) (h2 : a2.IsWhole)
  (a3 : Memref sig .tc .vmem S16x200 .i32) (h3 : a3.IsWhole) (a4 : Memref sig .tc .vmem S200x1x2048 .f32) (h4 : a4.IsWhole)
  (a5 : Memref sig .tc .vmem S200x1x2048 .f32) (h5 : a5.IsWhole) (a6 : Memref sig .tc .vmem S200x2048 .f32) (h6 : a6.IsWhole)
  (a7 : Memref sig .tc .vmem S200x128 .f32) (h7 : a7.IsWhole)
  (x0 : Vec F S2x512x2048 .f32) (x1 : Vec F S2x200x512 .i32) (x2 : Vec F S16x200 .i32) (x3 : Vec F S200x1x2048 .f32)
  (s0 : Vec F S200x2048 .f32) (s1 : Vec F S200x128 .f32)

/-- At a middle point the sum buffer gains the point's two batches. -/
theorem sum_middle (hc0 : ¬cond0_0 i) (hc1 : ¬cond0_1 i) :
    sout0_B_0 c i a1 h1 a2 h2 a3 h3 a4 h4 a5 h5 a6 h6 a7 h7 hc0 hc1 x0 x1 x2 x3 s0 s1 = sumStep i x0 x1 x2 s0 := by
  unfold sout0_B_0
  rw [View.read_writes_eq_canon _ _ _ (scover0_B_0 c i a1 h1 a2 h2 a3 h3 a4 h4 a5 h5 a6 h6 a7 h7 hc0 hc1 x0 x1 x2 x3 s0 s1)]
  unfold kernelRun0_B
  dsimp only
  sl_unfold_words
  rw [View.canon_unit_zero zero2]
  unfold sumStep
  simp only [View.readAt_eq_ld, h1.read_unread, h2.read_unread, h3.read_unread, h6.read_unread, View.ld_unit_zero (S := S200x2048) zero2]
  rfl

/-- At a middle point the count buffer gains the point's two batches. -/
theorem cnt_middle (hc0 : ¬cond0_0 i) (hc1 : ¬cond0_1 i) :
    sout0_B_1 c i a1 h1 a2 h2 a3 h3 a4 h4 a5 h5 a6 h6 a7 h7 hc0 hc1 x0 x1 x2 x3 s0 s1 = cntStep i x1 x2 s1 := by
  unfold sout0_B_1
  rw [View.read_writes_eq_canon _ _ _ (scover0_B_1 c i a1 h1 a2 h2 a3 h3 a4 h4 a5 h5 a6 h6 a7 h7 hc0 hc1 x0 x1 x2 x3 s0 s1)]
  unfold kernelRun0_B
  dsimp only
  sl_unfold_words
  rw [View.canon_unit_zero zero2]
  unfold cntStep
  simp only [View.readAt_eq_ld, h1.read_unread, h2.read_unread, h3.read_unread, h7.read_unread, View.ld_unit_zero (S := S200x128) zero2]
  rfl

/-- At the last point the sum buffer gains the point's two batches. -/
theorem sum_last (hc0 : ¬cond0_0 i) (hc1 : cond0_1 i) :
    sout0_C_0 c i a1 h1 a2 h2 a3 h3 a4 h4 a5 h5 a6 h6 a7 h7 hc0 hc1 x0 x1 x2 x3 s0 s1 = sumStep i x0 x1 x2 s0 := by
  unfold sout0_C_0
  rw [View.read_writes_eq_canon _ _ _ (scover0_C_0 c i a1 h1 a2 h2 a3 h3 a4 h4 a5 h5 a6 h6 a7 h7 hc0 hc1 x0 x1 x2 x3 s0 s1)]
  unfold kernelRun0_C
  dsimp only
  sl_unfold_words
  rw [View.canon_unit_zero zero2]
  unfold sumStep
  simp only [View.readAt_eq_ld, h1.read_unread, h2.read_unread, h3.read_unread, h6.read_unread, View.ld_unit_zero (S := S200x2048) zero2]
  rfl

/-- At the last point the count buffer gains the point's two batches. -/
theorem cnt_last (hc0 : ¬cond0_0 i) (hc1 : cond0_1 i) :
    sout0_C_1 c i a1 h1 a2 h2 a3 h3 a4 h4 a5 h5 a6 h6 a7 h7 hc0 hc1 x0 x1 x2 x3 s0 s1 = cntStep i x1 x2 s1 := by
  unfold sout0_C_1
  rw [View.read_writes_eq_canon _ _ _ (scover0_C_1 c i a1 h1 a2 h2 a3 h3 a4 h4 a5 h5 a6 h6 a7 h7 hc0 hc1 x0 x1 x2 x3 s0 s1)]
  unfold kernelRun0_C
  dsimp only
  sl_unfold_words
  rw [View.canon_unit_zero zero2]
  unfold cntStep
  simp only [View.readAt_eq_ld, h1.read_unread, h2.read_unread, h3.read_unread, h7.read_unread, View.ld_unit_zero (S := S200x128) zero2]
  rfl

/-- At the first point the sum buffer holds the point's two batches over zero. -/
theorem sum_first (hc0 : cond0_0 i) (hc1 : ¬cond0_1 i) :
    sout0_A_0 c i a1 h1 a2 h2 a3 h3 a4 h4 a5 h5 a6 h6 a7 h7 hc0 hc1 x0 x1 x2 x3 = sumStep i x0 x1 x2 k0_pay5 := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S200x2048) zero2, View.readCov_unit_zero (S := S200x2048) _ zero2]
  unfold sumStep
  simp only [View.readAt_eq_ld, h1.read_unread, h2.read_unread, h3.read_unread]
  rfl

/-- At the first point the count buffer holds the point's two batches over zero. -/
theorem cnt_first (hc0 : cond0_0 i) (hc1 : ¬cond0_1 i) :
    sout0_A_1 c i a1 h1 a2 h2 a3 h3 a4 h4 a5 h5 a6 h6 a7 h7 hc0 hc1 x0 x1 x2 x3 = cntStep i x1 x2 k0_pay6 := by
  unfold sout0_A_1
  rw [View.read_writes_eq_canon _ _ _ (scover0_A_1 c i a1 h1 a2 h2 a3 h3 a4 h4 a5 h5 a6 h6 a7 h7 hc0 hc1 x0 x1 x2 x3)]
  unfold kernelRun0_A
  dsimp only
  sl_unfold_words
  rw [View.canon_cons_unit_zero (S := S200x128) zero2, View.readCov_unit_zero (S := S200x128) _ zero2]
  unfold cntStep
  simp only [View.readAt_eq_ld, h1.read_unread, h2.read_unread, h3.read_unread]
  rfl

/-- At the last point the output buffer holds the moving average of the prototypes, taken from the two carried buffers
    as that point leaves them. -/
theorem out_last (hc0 : ¬cond0_0 i) (hc1 : cond0_1 i) :
    out0_C_4 c i a1 h1 a2 h2 a3 h3 a4 h4 a5 h5 a6 h6 a7 h7 hc0 hc1 x0 x1 x2 x3 s0 s1
      = k0_pay4 (col0 (cntStep i x1 x2 s1)) (sumStep i x0 x1 x2 s0) x3 := by
  unfold out0_C_4
  rw [View.read_writes_eq_canon _ _ _ (cover0_C_4 c i a1 h1 a2 h2 a3 h3 a4 h4 a5 h5 a6 h6 a7 h7 hc0 hc1 x0 x1 x2 x3 s0 s1)]
  unfold kernelRun0_C
  dsimp only
  sl_unfold_words
  rw [View.canon_unit_zero zero3]
  unfold sumStep cntStep
  simp only [View.readAt_eq_ld, h1.read_unread, h2.read_unread, h3.read_unread, h4.read_unread, h6.read_unread, h7.read_unread,
    View.ld_unit_zero (S := S200x128) zero2, View.ld_unit_zero (S := S200x2048) zero2, View.ld_unit_zero (S := S200x1x2048) zero3,
    View.readCov_unit_zero (S := S200x2048) _ zero2]
  rw [load_of_whole_store (S := S200x128) _ zero2]
  rfl

end Cert.KernelIdeal.Hand

end
-- ==== Proof.Point.lean ====
/-
  The body's arithmetic read at one index.

  Over the extended reals a mask entry is one where both the activity word and the label word are nonzero, and zero
  elsewhere. A point adds to each feature sum the masked features of its two batches, and to each count the number of
  nonzero mask entries of its two batches.
-/
module

public import proofs.«01_k».proof.Proof.Block
public import Idealize.ShloMosaic.Lib.Pointwise
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.SL.Sem

/-- The mask entry of an activity word and a label word: one where both are nonzero, zero elsewhere. -/
def mk (p q : BitVec 32) : EReal := if p ≠ 0#32 ∧ q ≠ 0#32 then 1 else 0

/-- A point's coordinate is below eight. -/
theorem coord_lt (i : grid0.Coords) : (i 0).val < 8 := (i 0).isLt

/-- The batch that point `i` handles in place `g` of its two. -/
def batch (i : grid0.Coords) (g : Fin 2) : Fin 16 := ⟨2 * (i 0).val + g.val, by have := coord_lt i; omega⟩

/-- The first row of labels a point reads is that of its first batch. -/
theorem label0_apply (i : grid0.Coords) (x2 : Vec Ideal S16x200 .i32) (r : Fin 200) :
    label0 i x2 (ix2 0 r) = x2 (ix2 (batch i 0) r) := by
  unfold label0
  refine congrArg x2 (funext fun a => Fin.ext ((Rect.idx_unit_val _ _ _ _ a).trans ?_))
  have h := coord_lt i
  match a with
  | ⟨0, _⟩ =>
    show k0_off1 i 0#32 0 + 0 = 2 * (i 0).val + 0
    simp only [k0_off1]
    generalize (i 0).val = n at h ⊢
    interval_cases n <;> rfl
  | ⟨1, _⟩ => exact Nat.zero_add _

/-- The second row of labels a point reads is that of its second batch. -/
theorem label1_apply (i : grid0.Coords) (x2 : Vec Ideal S16x200 .i32) (r : Fin 200) :
    label1 i x2 (ix2 0 r) = x2 (ix2 (batch i 1) r) := by
  unfold label1
  refine congrArg x2 (funext fun a => Fin.ext ((Rect.idx_unit_val _ _ _ _ a).trans ?_))
  have h := coord_lt i
  match a with
  | ⟨0, _⟩ =>
    show k0_off1 i 1#32 0 + 0 = 2 * (i 0).val + 1
    simp only [k0_off1]
    generalize (i 0).val = n at h ⊢
    interval_cases n <;> rfl
  | ⟨1, _⟩ => exact Nat.zero_add _

/-- The first activity slab at class `r`, time `t`. -/
theorem act0_apply (x1 : Vec Ideal S2x200x512 .i32) (r : Fin 200) (t : Fin 512) :
    act0 x1 (ix3 0 r t) = x1 (ix3 0 r t) := by
  pointwise [act0]

/-- The second activity slab at class `r`, time `t`. -/
theorem act1_apply (x1 : Vec Ideal S2x200x512 .i32) (r : Fin 200) (t : Fin 512) :
    act1 x1 (ix3 0 r t) = x1 (ix3 1 r t) := by
  pointwise [act1]

/-- The first feature slab at time `t`, feature `d`. -/
theorem feat0_apply (x0 : Vec Ideal S2x512x2048 .f32) (t : Fin 512) (d : Fin 2048) :
    feat0 x0 (ix3 0 t d) = x0 (ix3 0 t d) := by
  pointwise [feat0]

/-- The second feature slab at time `t`, feature `d`. -/
theorem feat1_apply (x0 : Vec Ideal S2x512x2048 .f32) (t : Fin 512) (d : Fin 2048) :
    feat1 x0 (ix3 0 t d) = x0 (ix3 1 t d) := by
  pointwise [feat1]

/-- The bit that says both words are nonzero, widened and read as a signed number, is the mask entry. -/
theorem signed_mask (p q : BitVec 32) :
    FloatOps.sitofp (F := Ideal) .f32 (BitVec.setWidth 32
      (IntOp.andi (IntOp.cmpi CmpIPredicate.ne p 0#32) (IntOp.cmpi CmpIPredicate.ne q 0#32))) = mk p q := by
  show (((BitVec.setWidth 32 (IntOp.andi (IntOp.cmpi CmpIPredicate.ne p 0#32)
    (IntOp.cmpi CmpIPredicate.ne q 0#32))).toInt : ℝ) : EReal) = mk p q
  unfold mk
  by_cases hp : p = 0#32 <;> by_cases hq : q = 0#32 <;> simp [IntOp.andi, IntOp.cmpi, hp, hq]
  rw [bne_iff_ne.mpr hp, bne_iff_ne.mpr hq]; rfl

/-- The bit that says both words are nonzero, read as an unsigned number, is the mask entry. -/
theorem unsigned_mask (p q : BitVec 32) :
    FloatOps.uitofp (F := Ideal) .f32
      (IntOp.andi (IntOp.cmpi CmpIPredicate.ne p 0#32) (IntOp.cmpi CmpIPredicate.ne q 0#32)) = mk p q := by
  show (((IntOp.andi (IntOp.cmpi CmpIPredicate.ne p 0#32)
    (IntOp.cmpi CmpIPredicate.ne q 0#32)).toNat : ℝ) : EReal) = mk p q
  unfold mk
  by_cases hp : p = 0#32 <;> by_cases hq : q = 0#32 <;> simp [IntOp.andi, IntOp.cmpi, hp, hq]

/-- The first batch's mask at class `r`, time `t`. -/
theorem mask0_apply (v : Vec Ideal S1x200 .i32) (w : Vec Ideal S1x200x512 .i32) (r : Fin 200) (t : Fin 512) :
    k0_pay7 (F := Ideal) v w (ix2 r t) = mk (w (ix3 0 r t)) (v (ix2 0 r)) := by
  pointwise [k0_pay7]
  exact signed_mask _ _

/-- The second batch's mask at class `r`, time `t`. -/
theorem mask1_apply (v : Vec Ideal S1x200 .i32) (w : Vec Ideal S1x200x512 .i32) (r : Fin 200) (t : Fin 512) :
    k0_pay1 (F := Ideal) (k0_pay9 (F := Ideal) v) (k0_pay10 (F := Ideal) w) 0#32 (ix2 r t) = mk (w (ix3 0 r t)) (v (ix2 0 r)) := by
  pointwise [k0_pay1, k0_pay9, k0_pay10]
  exact signed_mask _ _

/-- One point adds to the feature sum of class `r`, feature `d` the masked features of its first and then its second
    batch. -/
theorem sumStep_apply (i : grid0.Coords) (x0 : Vec Ideal S2x512x2048 .f32) (x1 : Vec Ideal S2x200x512 .i32)
    (x2 : Vec Ideal S16x200 .i32) (s : Vec Ideal S200x2048 .f32) (r : Fin 200) (d : Fin 2048) :
    sumStep i x0 x1 x2 s (ix2 r d)
      = s (ix2 r d) + (∑ t : Fin 512, mk (x1 (ix3 0 r t)) (x2 (ix2 (batch i 0) r)) * x0 (ix3 0 t d))
        + ∑ t : Fin 512, mk (x1 (ix3 1 r t)) (x2 (ix2 (batch i 1) r)) * x0 (ix3 1 t d) := by
  pointwise [sumStep, k0_pay2, k0_pay8]
  simp only [mask0_apply, mask1_apply, label0_apply, label1_apply, act0_apply, act1_apply, feat0_apply, feat1_apply]

/-- One point adds to the count of class `r`, in every lane `l`, the mask entries of its two batches. -/
theorem cntStep_apply (i : grid0.Coords) (x1 : Vec Ideal S2x200x512 .i32)
    (x2 : Vec Ideal S16x200 .i32) (s : Vec Ideal S200x128 .f32) (r : Fin 200) (l : Fin 128) :
    cntStep i x1 x2 s (ix2 r l)
      = s (ix2 r l) + (∑ t : Fin 512, mk (x1 (ix3 0 r t)) (x2 (ix2 (batch i 0) r))
        + ∑ t : Fin 512, mk (x1 (ix3 1 r t)) (x2 (ix2 (batch i 1) r))) := by
  pointwise [cntStep, k0_pay3]
  simp only [mask0_apply, mask1_apply, label0_apply, label1_apply, act0_apply, act1_apply, Finset.sum_add_distrib]

/-- The zero sums the first point starts from. -/
theorem sumZero_apply (j : S200x2048.Idx) : k0_pay5 (F := Ideal) j = 0 := by
  pointwise [k0_pay5]

/-- The zero counts the first point starts from. -/
theorem cntZero_apply (j : S200x128.Idx) : k0_pay6 (F := Ideal) j = 0 := by
  pointwise [k0_pay6]

/-- The first column of the counts. -/
theorem col0_apply (s1 : Vec Ideal S200x128 .f32) (r : Fin 200) : col0 s1 (ix2 r 0) = s1 (ix2 r 0) := by
  pointwise [col0]

/-- The finished prototype of class `r`, feature `d`: where the class's count is positive the moving average of the
    prototype and the mean, elsewhere the prototype. The mean is the sum times the reciprocal of the count. -/
theorem finish_apply (n : Vec Ideal S200x1 .f32) (s : Vec Ideal S200x2048 .f32) (p : Vec Ideal S200x1x2048 .f32)
    (r : Fin 200) (d : Fin 2048) :
    k0_pay4 n s p (ix3 r 0 d) = if 0 < n (ix2 r 0) then
      Ideal.ofBits .f32 0x3F7FBE77#32 * p (ix3 r 0 d)
        + Ideal.ofBits .f32 0x3A83126F#32 * (s (ix2 r d) * Ideal.div 1 (max (n (ix2 r 0)) 1))
      else p (ix3 r 0 d) := by
  pointwise [k0_pay4]

end Cert.KernelIdeal.Hand

end
-- ==== Proof.Blocks.lean ====
/-
  Which entries of the four arguments each grid point sees.

  Point `t` sees the features and the activity of batches `2t` and `2t + 1`, and the whole arrays of labels and
  prototypes. The activity array is transposed once, from (batch, time, class) to (batch, class, time), before the grid
  starts.
-/
module

public import proofs.«01_k».proof.Proof.Point
public import proofs.«01_k».proof.Proof.Gen.KernelIdeal.Value
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The features as launched. -/
abbrev feats : S16x512x2048.Idx → EReal := m ((c : Thread nD τ).loc main_arg0)
/-- The activity as launched. -/
abbrev acts : S16x512x200.Idx → BitVec 32 := m ((c : Thread nD τ).loc main_arg1)
/-- The labels as launched. -/
abbrev labels : S16x200.Idx → BitVec 32 := m ((c : Thread nD τ).loc main_arg2)
/-- The prototypes as launched. -/
abbrev protos : S200x1x2048.Idx → EReal := m ((c : Thread nD τ).loc main_arg3)

/-- The grid has eight points. -/
theorem points : cfg0.N = 8 := N_0

/-- A point's one coordinate is its number. -/
theorem coord_val (t : Fin cfg0.N) : (grid0.coords t 0).val = t.val := by
  have h : (grid0.coords t 0).val = t.val / 1 % 8 := Pipeline.Grid.coords_val t 0 (by decide) rfl
  have hN : t.val < 8 := lt_of_lt_of_eq t.isLt points
  omega

/-- The batch in place `g` of point `t` is `2t + g`. -/
theorem batch_val (t : Fin cfg0.N) (g : Fin 2) : (batch (grid0.coords t) g).val = 2 * t.val + g.val := by
  unfold batch; rw [← coord_val t]

/-- The array the grid reads for the activity is the launched one with its last two axes exchanged. -/
theorem acts_transposed (b : Fin 16) (r : Fin 200) (t : Fin 512) :
    V m c main_v0 (ix3 b r t) = acts m c (ix3 b t r) := by
  have h : V m c main_v0 = transpose S16x200x512 [0, 2, 1] (acts m c) transposes_S16x512x200_S16x200x512_0_2_1 := by
    simp only [V, hostOps0]; after_results_simp
  rw [h]; pointwise

/-- Where the moving windows stand at point `t`, and where the fixed ones do. -/
theorem index_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0)
    ∧ (win0_3.index t 0 = 0 ∧ win0_3.index t 1 = 0 ∧ win0_3.index t 2 = 0) :=
  (by decide +kernel : ∀ t : Fin grid0.N, _)

/-- Point `t` sees the features of its two batches. -/
theorem block0_apply (t : Fin cfg0.N) (g : Fin 2) (s : Fin 512) (d : Fin 2048) :
    (iblk m c 0 t : Vec Ideal S2x512x2048 .f32) (ix3 g s d) = feats m c (ix3 (batch (grid0.coords t) g) s d) := by
  obtain ⟨⟨e0, e1, e2⟩, -⟩ := index_facts t
  have hb := batch_val t g
  unfold iblk
  rw [View.read_apply]
  show V m c main_arg0 _ = _
  rw [V_main_arg0]
  congr 1
  funext a
  apply Fin.ext
  match a with
  | ⟨0, _⟩ => show win0_0.index t 0 * 2 + 1 * g.val = (batch (grid0.coords t) g).val; rw [e0, hb]; omega
  | ⟨1, _⟩ => show win0_0.index t 1 * 512 + 1 * s.val = s.val; rw [e1]; omega
  | ⟨2, _⟩ => show win0_0.index t 2 * 2048 + 1 * d.val = d.val; rw [e2]; omega

/-- Point `t` sees the activity of its two batches, class before time. -/
theorem block1_apply (t : Fin cfg0.N) (g : Fin 2) (r : Fin 200) (s : Fin 512) :
    (iblk m c 1 t : Vec Ideal S2x200x512 .i32) (ix3 g r s) = acts m c (ix3 (batch (grid0.coords t) g) s r) := by
  obtain ⟨-, ⟨e0, e1, e2⟩, -⟩ := index_facts t
  have hb := batch_val t g
  rw [← acts_transposed]
  unfold iblk
  rw [View.read_apply]
  show V m c main_v0 _ = _
  congr 1
  funext a
  apply Fin.ext
  match a with
  | ⟨0, _⟩ => show win0_1.index t 0 * 2 + 1 * g.val = (batch (grid0.coords t) g).val; rw [e0, hb]; omega
  | ⟨1, _⟩ => show win0_1.index t 1 * 200 + 1 * r.val = r.val; rw [e1]; omega
  | ⟨2, _⟩ => show win0_1.index t 2 * 512 + 1 * s.val = s.val; rw [e2]; omega

/-- Every point sees all the labels. -/
theorem block2_apply (t : Fin cfg0.N) (b : Fin 16) (r : Fin 200) :
    (iblk m c 2 t : Vec Ideal S16x200 .i32) (ix2 b r) = labels m c (ix2 b r) := by
  obtain ⟨-, -, ⟨e0, e1⟩, -⟩ := index_facts t
  unfold iblk
  rw [View.read_apply]
  show V m c main_arg2 _ = _
  rw [V_main_arg2]
  congr 1
  funext a
  apply Fin.ext
  match a with
  | ⟨0, _⟩ => show win0_2.index t 0 * 16 + 1 * b.val = b.val; rw [e0]; omega
  | ⟨1, _⟩ => show win0_2.index t 1 * 200 + 1 * r.val = r.val; rw [e1]; omega

/-- Every point sees all the prototypes. -/
theorem block3_apply (t : Fin cfg0.N) (r : Fin 200) (d : Fin 2048) :
    (iblk m c 3 t : Vec Ideal S200x1x2048 .f32) (ix3 r 0 d) = protos m c (ix3 r 0 d) := by
  obtain ⟨-, -, -, ⟨e0, e1, e2⟩⟩ := index_facts t
  unfold iblk
  rw [View.read_apply]
  show V m c main_arg3 _ = _
  rw [V_main_arg3]
  congr 1
  funext a
  apply Fin.ext
  match a with
  | ⟨0, _⟩ => show win0_3.index t 0 * 200 + 1 * r.val = r.val; rw [e0]; omega
  | ⟨1, _⟩ => show win0_3.index t 1 * 1 + 1 * 0 = 0; rw [e1]
  | ⟨2, _⟩ => show win0_3.index t 2 * 2048 + 1 * d.val = d.val; rw [e2]; omega

end Cert.KernelIdeal.Hand

end
-- ==== Proof.Sums.lean ====
/-
  What the two carried buffers hold after each grid point, and what the output holds at the end.

  After point `n` the feature sums and the counts are those of the batches below `2(n + 1)`. After the last point they
  are those of all sixteen batches, and the output is the moving average taken from them.
-/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.SL.Sem

/-- The masked features of one batch, summed over time. -/
def batchSum (f : S16x512x2048.Idx → EReal) (a : S16x512x200.Idx → BitVec 32) (v : S16x200.Idx → BitVec 32)
    (r : Fin 200) (d : Fin 2048) (b : Fin 16) : EReal :=
  ∑ t : Fin 512, mk (a (ix3 b t r)) (v (ix2 b r)) * f (ix3 b t d)

/-- The nonzero mask entries of one batch, counted over time. -/
def batchCnt (a : S16x512x200.Idx → BitVec 32) (v : S16x200.Idx → BitVec 32) (r : Fin 200) (b : Fin 16) : EReal :=
  ∑ t : Fin 512, mk (a (ix3 b t r)) (v (ix2 b r))

/-- The sum of `g` over the batches below `k`. -/
def below (g : Fin 16 → EReal) (k : ℕ) : EReal := ∑ b ∈ Finset.range k, if h : b < 16 then g ⟨b, h⟩ else 0

/-- No batch is below zero. -/
theorem below_zero (g : Fin 16 → EReal) : below g 0 = 0 := by
  unfold below; exact Finset.sum_range_zero _

/-- One more batch adds its own term. -/
theorem below_succ (g : Fin 16 → EReal) (b : Fin 16) (k : ℕ) (h : b.val = k) : below g (k + 1) = below g k + g b := by
  subst h
  unfold below
  rw [Finset.sum_range_succ, dif_pos b.isLt]

/-- All sixteen batches are below sixteen. -/
theorem below_all (g : Fin 16 → EReal) : below g 16 = ∑ b : Fin 16, g b := by
  unfold below
  rw [Finset.sum_range]
  exact Finset.sum_congr rfl fun b _ => dif_pos b.isLt

variable (m : (ℓ : Loc nD τ sig) → Buf (Elt Ideal) ℓ) (c : Dev nD)

/-- A point whose carried sums are those of the batches below `2t` leaves those of the batches below `2t + 2`. -/
theorem sum_point (t : Fin cfg0.N) (s : Vec Ideal S200x2048 .f32) (r : Fin 200) (d : Fin 2048)
    (hs : s (ix2 r d) = below (batchSum (feats m c) (acts m c) (labels m c) r d) (2 * t.val)) :
    sumStep (grid0.coords t) (iblk m c 0 t) (iblk m c 1 t) (iblk m c 2 t) s (ix2 r d)
      = below (batchSum (feats m c) (acts m c) (labels m c) r d) (2 * t.val + 1 + 1) := by
  rw [sumStep_apply, hs, below_succ _ (batch (grid0.coords t) 1) (2 * t.val + 1) (batch_val t 1),
    below_succ _ (batch (grid0.coords t) 0) (2 * t.val) (batch_val t 0)]
  unfold batchSum
  simp only [block0_apply, block1_apply, block2_apply]

/-- A point whose carried counts are those of the batches below `2t` leaves those of the batches below `2t + 2`. -/
theorem cnt_point (t : Fin cfg0.N) (s : Vec Ideal S200x128 .f32) (r : Fin 200) (l : Fin 128)
    (hs : s (ix2 r l) = below (batchCnt (acts m c) (labels m c) r) (2 * t.val)) :
    cntStep (grid0.coords t) (iblk m c 1 t) (iblk m c 2 t) s (ix2 r l)
      = below (batchCnt (acts m c) (labels m c) r) (2 * t.val + 1 + 1) := by
  rw [cntStep_apply, hs, below_succ _ (batch (grid0.coords t) 1) (2 * t.val + 1) (batch_val t 1),
    below_succ _ (batch (grid0.coords t) 0) (2 * t.val) (batch_val t 0)]
  unfold batchCnt
  simp only [block1_apply, block2_apply, add_assoc]

/-- The feature sums after point `n` are one step over those before it. -/
theorem sums_succ (n : ℕ) (hn : n + 1 < cfg0.N) :
    (outsAt0 m c (n + 1) hn).2.1 = sumStep (grid0.coords ⟨n + 1, hn⟩) (iblk m c 0 ⟨n + 1, hn⟩) (iblk m c 1 ⟨n + 1, hn⟩)
      (iblk m c 2 ⟨n + 1, hn⟩) (outsAt0 m c n (Nat.lt_of_succ_lt hn)).2.1 := by
  have hN : n + 1 < 8 := lt_of_lt_of_eq hn points
  have h0 : ¬(⟨n + 1, hn⟩ : Fin cfg0.N).val % 8 = 0 := by dsimp only; omega
  by_cases h1 : (⟨n + 1, hn⟩ : Fin cfg0.N).val % 8 = 7
  · rw [outsAt0_C m c ⟨n + 1, hn⟩ h0 h1]
    dsimp only
    rw [sum_last]
    rfl
  · rw [outsAt0_B m c ⟨n + 1, hn⟩ h0 h1]
    dsimp only
    rw [sum_middle]
    rfl

/-- The counts after point `n` are one step over those before it. -/
theorem cnts_succ (n : ℕ) (hn : n + 1 < cfg0.N) :
    (outsAt0 m c (n + 1) hn).2.2 = cntStep (grid0.coords ⟨n + 1, hn⟩) (iblk m c 1 ⟨n + 1, hn⟩)
      (iblk m c 2 ⟨n + 1, hn⟩) (outsAt0 m c n (Nat.lt_of_succ_lt hn)).2.2 := by
  have hN : n + 1 < 8 := lt_of_lt_of_eq hn points
  have h0 : ¬(⟨n + 1, hn⟩ : Fin cfg0.N).val % 8 = 0 := by dsimp only; omega
  by_cases h1 : (⟨n + 1, hn⟩ : Fin cfg0.N).val % 8 = 7
  · rw [outsAt0_C m c ⟨n + 1, hn⟩ h0 h1]
    dsimp only
    rw [cnt_last]
    rfl
  · rw [outsAt0_B m c ⟨n + 1, hn⟩ h0 h1]
    dsimp only
    rw [cnt_middle]
    rfl

/-- The feature sums after the first point are one step over zero. -/
theorem sums_zero (h : 0 < cfg0.N) :
    (outsAt0 m c 0 h).2.1 = sumStep (grid0.coords ⟨0, h⟩) (iblk m c 0 ⟨0, h⟩) (iblk m c 1 ⟨0, h⟩) (iblk m c 2 ⟨0, h⟩)
      (k0_pay5 (F := Ideal)) := by
  rw [outsAt0_A m c ⟨0, h⟩ rfl (by dsimp only; omega)]
  dsimp only
  rw [sum_first]

/-- The counts after the first point are one step over zero. -/
theorem cnts_zero (h : 0 < cfg0.N) :
    (outsAt0 m c 0 h).2.2 = cntStep (grid0.coords ⟨0, h⟩) (iblk m c 1 ⟨0, h⟩) (iblk m c 2 ⟨0, h⟩)
      (k0_pay6 (F := Ideal)) := by
  rw [outsAt0_A m c ⟨0, h⟩ rfl (by dsimp only; omega)]
  dsimp only
  rw [cnt_first]

/-- After point `n` the feature sums are those of the batches below `2(n + 1)`. -/
theorem sums_eq (r : Fin 200) (d : Fin 2048) : ∀ (n : ℕ) (h : n < cfg0.N),
    (outsAt0 m c n h).2.1 (ix2 r d) = below (batchSum (feats m c) (acts m c) (labels m c) r d) (2 * n + 1 + 1)
  | 0, h => by
    rw [sums_zero]
    exact sum_point m c ⟨0, h⟩ _ r d ((sumZero_apply _).trans (below_zero _).symm)
  | n + 1, h => by
    rw [sums_succ]
    exact sum_point m c ⟨n + 1, h⟩ _ r d (sums_eq r d n _)

/-- After point `n` every lane of the counts holds those of the batches below `2(n + 1)`. -/
theorem cnts_eq (r : Fin 200) (l : Fin 128) : ∀ (n : ℕ) (h : n < cfg0.N),
    (outsAt0 m c n h).2.2 (ix2 r l) = below (batchCnt (acts m c) (labels m c) r) (2 * n + 1 + 1)
  | 0, h => by
    rw [cnts_zero]
    exact cnt_point m c ⟨0, h⟩ _ r l ((cntZero_apply _).trans (below_zero _).symm)
  | n + 1, h => by
    rw [cnts_succ]
    exact cnt_point m c ⟨n + 1, h⟩ _ r l (cnts_eq r l n _)

/-- The last point writes the moving average taken from the two carried buffers it leaves. -/
theorem out_eq (h : 7 < cfg0.N) :
    (outsAt0 m c 7 h).1 = k0_pay4 (col0 (outsAt0 m c 7 h).2.2) (outsAt0 m c 7 h).2.1 (iblk m c 3 ⟨7, h⟩) := by
  rw [sums_succ, cnts_succ]
  rw [outsAt0_C m c ⟨7, h⟩ (by dsimp only; omega) rfl]
  dsimp only
  rw [out_last]

/-- The number of nonzero mask entries of class `r`. -/
def count (a : S16x512x200.Idx → BitVec 32) (v : S16x200.Idx → BitVec 32) (r : Fin 200) : EReal :=
  ∑ b : Fin 16, batchCnt a v r b

/-- The masked feature sum of class `r`, feature `d`. -/
def total (f : S16x512x2048.Idx → EReal) (a : S16x512x200.Idx → BitVec 32) (v : S16x200.Idx → BitVec 32)
    (r : Fin 200) (d : Fin 2048) : EReal :=
  ∑ b : Fin 16, batchSum f a v r d b

/-- The kernel's result at class `r`, feature `d`: where the class's count is positive the moving average of the
    prototype and of the total times the reciprocal of the count, elsewhere the prototype. -/
theorem kernel_apply (r : Fin 200) (d : Fin 2048) :
    Value.G4 m c (ix3 r 0 d) = if 0 < count (acts m c) (labels m c) r then
      Ideal.ofBits .f32 0x3F7FBE77#32 * protos m c (ix3 r 0 d)
        + Ideal.ofBits .f32 0x3A83126F#32
          * (total (feats m c) (acts m c) (labels m c) r d * Ideal.div 1 (max (count (acts m c) (labels m c) r) 1))
      else protos m c (ix3 r 0 d) := by
  have h7 : 7 < cfg0.N := by rw [points]; decide
  have e := (Value.G4_last m c).trans (congrArg Prod.fst (Value.outsAt0_sweep m c 7 h7)).symm
  rw [e, out_eq, finish_apply, col0_apply, sums_eq, cnts_eq, block3_apply]
  show (if 0 < below _ 16 then _ + _ * (below _ 16 * Ideal.div 1 (max (below _ 16) 1)) else _) = _
  simp only [below_all]
  rfl

end Cert.KernelIdeal.Hand

end
-- ==== Proof.Reference.lean ====
/-
  What the reference computes, at one index.

  The reference forms the mask over (batch, time, class), contracts it with the features over batch and time, counts its
  entries over batch and time, divides, and takes the moving average where the count is positive. Read at class `r`,
  feature `d`, these are the same total and count as the kernel's.
-/
module

public import proofs.«01_k».proof.Proof.Sums
public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.KernelIdeal.Hand (mk unsigned_mask batchSum batchCnt count total)

/-- The host's sum of a (batch, time, class) array over batch and time, from a start value, at class `r`: the start value
    and the double sum. -/
theorem reduce_batch_time (x : S16x512x200.Idx → EReal) (init : EReal) (r : Fin 200) :
    Ideal.hostReduceAdd reducesTo_S16x512x200_S200_d0_1 x init (ix1 r)
      = init + ∑ b : Fin 16, ∑ t : Fin 512, x (ix3 b t r) := by
  unfold Ideal.hostReduceAdd
  congr 1
  rw [← Fintype.sum_prod_type' (f := fun (b : Fin 16) (t : Fin 512) => x (ix3 b t r))]
  symm
  refine Finset.sum_bij' (fun p _ => ix3 p.1 p.2 r) (fun i _ => (i 0, i 1)) ?_ ?_ ?_ ?_ ?_
  · intro p _
    refine Finset.mem_filter.mpr ⟨Finset.mem_univ _, ?_⟩
    funext a
    fin_cases a
    rfl
  · intro i _; exact Finset.mem_univ _
  · intro p _; rfl
  · intro i hi
    have h := (Finset.mem_filter.mp hi).2
    have h2 : (i 2).val = r.val := congrArg Fin.val (congrFun h 0)
    funext a
    apply Fin.ext
    match a with
    | ⟨0, _⟩ => rfl
    | ⟨1, _⟩ => rfl
    | ⟨2, _⟩ => exact h2.symm
  · intro p _; rfl

/-- The reference's mask over (batch, time, class). -/
def mask (a : IVec S16x512x200 32) (v : IVec S16x200 32) : FVec Ideal S16x512x200 .f32 :=
  uitofp .f32 (andi (cmpi .ne a (broadcastInDim S16x512x200 ![] bcast_S_S16x512x200 (constantI S_ 32 0#32)))
    (broadcastInDim S16x512x200 ![0, 1, 2] bcast_S16x1x200_S16x512x200_0_1_2
      (cmpi .ne (broadcastInDim S16x1x200 ![0, 2] bcast_S16x200_S16x1x200_0_2 v)
        (broadcastInDim S16x1x200 ![] bcast_S_S16x1x200 (constantI S_ 32 0#32)))))

/-- The reference's mask at one entry. -/
theorem mask_apply (a : IVec S16x512x200 32) (v : IVec S16x200 32) (b : Fin 16) (t : Fin 512) (r : Fin 200) :
    mask a v (ix3 b t r) = mk (a (ix3 b t r)) (v (ix2 b r)) := by
  pointwise [mask]
  exact unsigned_mask _ _

/-- The reference's counts by class. -/
def counts (a : IVec S16x512x200 32) (v : IVec S16x200 32) : FVec Ideal S200 .f32 :=
  Host.reduceAdd (mask a v) (constant S_ .f32 0#32) reducesTo_S16x512x200_S200_d0_1 h_S_

/-- The reference's count of class `r`. -/
theorem counts_apply (a : IVec S16x512x200 32) (v : IVec S16x200 32) (r : Fin 200) :
    counts a v (ix1 r) = count a v r := by
  have h : counts a v (ix1 r) = Ideal.hostReduceAdd reducesTo_S16x512x200_S200_d0_1 (mask a v) (Ideal.ofBits .f32 0#32) (ix1 r) := rfl
  rw [h, reduce_batch_time, Ideal.ofBits_zero_f32, zero_add]
  simp only [mask_apply]
  rfl

/-- The reference's masked feature sums by class and feature. -/
def totals (f : FVec Ideal S16x512x2048 .f32) (a : IVec S16x512x200 32) (v : IVec S16x200 32) : FVec Ideal S200x2048 .f32 :=
  Host.dotGeneral dot_S16x512x200_S16x512x2048_S200x2048_01_01_2_2_n_n none (mask a v) f

/-- The reference's masked feature sum of class `r`, feature `d`. -/
theorem totals_apply (f : FVec Ideal S16x512x2048 .f32) (a : IVec S16x512x200 32) (v : IVec S16x200 32)
    (r : Fin 200) (d : Fin 2048) : totals f a v (ix2 r d) = total f a v r d := by
  pointwise [totals]
  simp only [mask_apply]
  rfl

/-- The reference's result, from the four arguments. -/
def result (f : FVec Ideal S16x512x2048 .f32) (a : IVec S16x512x200 32) (v : IVec S16x200 32)
    (p : FVec Ideal S200x1x2048 .f32) : FVec Ideal S200x1x2048 .f32 :=
  select
    (broadcastInDim S200x1x2048 ![0, 1, 2] bcast_S200x1x1_S200x1x2048_0_1_2
      (broadcastInDim S200x1x1 ![0] bcast_S200_S200x1x1_0
        (cmpf .ogt (counts a v) (broadcastInDim S200 ![] bcast_S_S200 (constant S_ .f32 0#32)))))
    (addf (mulf (broadcastInDim S200x1x2048 ![] bcast_S_S200x1x2048 (constant S_ .f32 0x3F7FBE77#32)) p)
      (mulf (broadcastInDim S200x1x2048 ![] bcast_S_S200x1x2048 (constant S_ .f32 0x3A83126F#32))
        (broadcastInDim S200x1x2048 ![0, 2] bcast_S200x2048_S200x1x2048_0_2
          (Host.divf (totals f a v)
            (broadcastInDim S200x2048 ![0, 1] bcast_S200x1_S200x2048_0_1
              (broadcastInDim S200x1 ![0] bcast_S200_S200x1_0
                (maximumf (counts a v) (broadcastInDim S200 ![] bcast_S_S200 (constant S_ .f32 0x3F800000#32)))))))))
    p

/-- The reference's result at class `r`, feature `d`: where the class's count is positive the moving average of the
    prototype and of the total divided by the count, elsewhere the prototype. -/
theorem result_apply (f : FVec Ideal S16x512x2048 .f32) (a : IVec S16x512x200 32) (v : IVec S16x200 32)
    (p : FVec Ideal S200x1x2048 .f32) (r : Fin 200) (d : Fin 2048) :
    result f a v p (ix3 r 0 d) = if 0 < count a v r then
      Ideal.ofBits .f32 0x3F7FBE77#32 * p (ix3 r 0 d)
        + Ideal.ofBits .f32 0x3A83126F#32 * Ideal.div (total f a v r d) (max (count a v r) 1)
      else p (ix3 r 0 d) := by
  pointwise [result]
  simp only [counts_apply, totals_apply]

end Cert.ReferenceIdeal.Hand

end
-- ==== Proof.Tie.lean ====
/-
  The kernel's result and the reference's result are the same array.

  Both are the moving average at the same total and the same count; the kernel multiplies by the reciprocal of the count
  where the reference divides by it. The count is a finite sum of zeros and ones, so its maximum with one is a real number
  that is not zero, and there division is multiplication by the reciprocal, whatever the total is.
-/
module

public import proofs.«01_k».proof.Proof.Reference

@[expose] public section

noncomputable section

namespace Cert.Tie

open Idealize.ShloMosaic Idealize.ShloMosaic.TcCoe Idealize.SL.Sem
open Cert.KernelIdeal.Hand (mk batchCnt count total kernel_apply feats acts labels protos)

/-- A finite sum of real numbers is a real number. -/
theorem real_sum {ι : Type} (s : Finset ι) (f : ι → EReal) (h : ∀ i ∈ s, ∃ x : ℝ, f i = x) : ∃ x : ℝ, ∑ i ∈ s, f i = x := by
  refine Finset.sum_induction f (fun y => ∃ x : ℝ, y = x) ?_ ⟨0, rfl⟩ h
  rintro _ _ ⟨x, rfl⟩ ⟨y, rfl⟩
  exact ⟨x + y, (EReal.coe_add x y).symm⟩

/-- A mask entry is a real number. -/
theorem real_mk (p q : BitVec 32) : ∃ x : ℝ, mk p q = x := by
  unfold mk
  split
  · exact ⟨1, rfl⟩
  · exact ⟨0, rfl⟩

/-- A count is a real number. -/
theorem real_count (a : Cert.KernelIdeal.S16x512x200.Idx → BitVec 32) (v : Cert.KernelIdeal.S16x200.Idx → BitVec 32)
    (r : Fin 200) : ∃ x : ℝ, count a v r = x :=
  real_sum _ _ fun _ _ => real_sum _ _ fun _ _ => real_mk _ _

/-- Dividing by the maximum of a real number and one is multiplying by its reciprocal. -/
theorem div_max_one (n : EReal) (h : ∃ x : ℝ, n = x) (y : EReal) : Ideal.div y (max n 1) = y * Ideal.div 1 (max n 1) := by
  obtain ⟨x, rfl⟩ := h
  have hm : max (x : EReal) 1 = ((max x 1 : ℝ) : EReal) := (EReal.coe_strictMono.monotone.map_max (a := x) (b := 1)).symm
  have h0 : max x 1 ≠ 0 := ne_of_gt (lt_of_lt_of_le one_pos (le_max_right x 1))
  rw [hm, Ideal.div_coe h0, Ideal.div_coe h0, one_mul]

/-- The kernel's result array is the reference's result of the kernel's launched arguments. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Hand.result (feats m c) (acts m c) (labels m c) (protos m c) = Cert.KernelIdeal.Value.G4 m c := by
  funext j
  obtain ⟨r, d, rfl⟩ : ∃ (r : Fin 200) (d : Fin 2048), j = ix3 r 0 d := by
    refine ⟨j 0, j 2, (eq_ix3 j).trans ?_⟩
    have h1 : j 1 = (0 : Fin 1) := Fin.ext (Nat.lt_one_iff.mp (j 1).isLt)
    rw [← h1]
  rw [Cert.ReferenceIdeal.Hand.result_apply, kernel_apply, div_max_one _ (real_count _ _ _)]

end Cert.Tie

end
-- ==== Proof.lean ====
/-
  The claims: the kernel and its idealization run without fault and leave their arguments as they were, the idealization
  rewrote nothing, and over the extended reals the kernel's result is the reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

/-- The reference's run leaves its arguments as they were and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree, the kernel's result over the extended reals is the reference's. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Tie.results_agree m c

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  (trivial : preserves_Kernel_KernelIdeal), algebraic_KernelIdeal_ReferenceIdeal⟩

end Cert.Proof

end
